-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_finite [hPre_scales_finite : Cert.Pre_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_finite [hPre_scales_finite : Cert.Pre_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_scales_finite [hKernelIdeal : Cert.KernelIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_scales_finite [hReferenceIdeal : Cert.ReferenceIdeal.Facts] [hPre_scales_finite : Cert.Pre_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_scales_finite [hKernelIdeal : Cert.KernelIdeal.Facts] [hReferenceIdeal : Cert.ReferenceIdeal.Facts] [hPre_scales_finite : Cert.Pre_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_scales_finite : Cert.Pre_scales_finite.Facts),
    quiescent_Kernel (hKernel := hKernel)
    ∧ quiescent_KernelIdeal (hKernelIdeal := hKernelIdeal)
    ∧ quiescent_KernelIdeal_pre_scales_finite (hKernelIdeal := hKernelIdeal) (hPre_scales_finite := hPre_scales_finite)
    ∧ quiescent_ReferenceIdeal (hReferenceIdeal := hReferenceIdeal)
    ∧ quiescent_ReferenceIdeal_pre_scales_finite (hReferenceIdeal := hReferenceIdeal) (hPre_scales_finite := hPre_scales_finite)
    ∧ preserves_Kernel_KernelIdeal
    ∧ algebraic_KernelIdeal_ReferenceIdeal_pre_scales_finite (hKernelIdeal := hKernelIdeal) (hReferenceIdeal := hReferenceIdeal) (hPre_scales_finite := hPre_scales_finite)
-- ==== Pre_scales_finite.lean ====
abbrev S6x256x1024 : Shape := ⟨3, ![6, 256, 1024]⟩
abbrev S6x256 : Shape := ⟨2, ![6, 256]⟩
abbrev S6x256x24 : Shape := ⟨3, ![6, 256, 24]⟩
abbrev S5120x1024 : Shape := ⟨2, ![5120, 1024]⟩
abbrev S1024 : Shape := ⟨1, ![1024]⟩
abbrev S5120x24 : Shape := ⟨2, ![5120, 24]⟩
abbrev S24x1024 : Shape := ⟨2, ![24, 1024]⟩
abbrev S_ : Shape := ⟨0, ![]⟩

class Facts : Prop where
  bcast_S_S6x256 : S_.BroadcastsInDim S6x256 (![] : Fin 0 → Fin S6x256.rank)

variable [Facts]

def fn {F : FTy → Type} [FloatOps F] (main_arg0 : FVec F S6x256x1024 .fp8e5m2) (main_arg1 : FVec F S6x256 .f32) (main_arg2 : FVec F S6x256x24 .fp8e4m3) (main_arg3 : FVec F S6x256 .f32) (main_arg4 : FVec F S5120x1024 .fp8e4m3) (main_arg5 : FVec F S1024 .f32) (main_arg6 : FVec F S5120x24 .bf16) (main_arg7 : FVec F S24x1024 .bf16) : IVec S6x256 1 :=
  let main_cst : FVec F S_ .f32 := constant S_ .f32 0x00000000#32
  let main_v0 : FVec F S6x256 .f32 := broadcastInDim S6x256 ![] bcast_S_S6x256 main_cst
  let main_v1 : IVec S6x256 1 := cmpf .oge main_arg1 main_v0
  let main_cst_0 : FVec F S_ .f32 := constant S_ .f32 0x7F800000#32
  let main_v2 : FVec F S6x256 .f32 := broadcastInDim S6x256 ![] bcast_S_S6x256 main_cst_0
  let main_v3 : IVec S6x256 1 := cmpf .olt main_arg1 main_v2
  let main_v4 : IVec S6x256 1 := andi main_v1 main_v3
  main_v4
-- ==== Kernel.lean ====
abbrev S6x256x1024 : Shape := ⟨3, ![6, 256, 1024]⟩
abbrev S6x256 : Shape := ⟨2, ![6, 256]⟩
abbrev S6x256x24 : Shape := ⟨3, ![6, 256, 24]⟩
abbrev S5120x1024 : Shape := ⟨2, ![5120, 1024]⟩
abbrev S1024 : Shape := ⟨1, ![1024]⟩
abbrev S5120x24 : Shape := ⟨2, ![5120, 24]⟩
abbrev S24x1024 : Shape := ⟨2, ![24, 1024]⟩
abbrev S1x1024 : Shape := ⟨2, ![1, 1024]⟩
abbrev S6x256x5120 : Shape := ⟨3, ![6, 256, 5120]⟩
abbrev S1x256x1024 : Shape := ⟨3, ![1, 256, 1024]⟩
abbrev S1x256x24 : Shape := ⟨3, ![1, 256, 24]⟩
abbrev S1x256x5120 : Shape := ⟨3, ![1, 256, 5120]⟩
abbrev S1x256 : Shape := ⟨2, ![1, 256]⟩
abbrev S8x256 : Shape := ⟨2, ![8, 256]⟩
abbrev S256x8 : Shape := ⟨2, ![256, 8]⟩
abbrev S256x1 : Shape := ⟨2, ![256, 1]⟩
abbrev S256x1024 : Shape := ⟨2, ![256, 1024]⟩
abbrev S256x24 : Shape := ⟨2, ![256, 24]⟩
abbrev S256x5120 : Shape := ⟨2, ![256, 5120]⟩

abbrev nBuf : Space → Nat
  | .hbm => 12
  | .vmem => 15
  | .smem => 0
  | _ => 0

abbrev bufTy : (tb : Table) → Fin (tcTables nBuf tb) → BufTy
  | .hbm, ⟨0, _⟩ => ⟨S6x256x1024, .fp8e5m2⟩
  | .hbm, ⟨1, _⟩ => ⟨S6x256, .f32⟩
  | .hbm, ⟨2, _⟩ => ⟨S6x256x24, .fp8e4m3⟩
  | .hbm, ⟨3, _⟩ => ⟨S6x256, .f32⟩
  | .hbm, ⟨4, _⟩ => ⟨S5120x1024, .fp8e4m3⟩
  | .hbm, ⟨5, _⟩ => ⟨S1024, .f32⟩
  | .hbm, ⟨6, _⟩ => ⟨S5120x24, .bf16⟩
  | .hbm, ⟨7, _⟩ => ⟨S24x1024, .bf16⟩
  | .hbm, ⟨8, _⟩ => ⟨S1x1024, .f32⟩
  | .hbm, ⟨9, _⟩ => ⟨S6x256x5120, .bf16⟩
  | .hbm, ⟨10, _⟩ => ⟨S24x1024, .f32⟩
  | .hbm, ⟨11, _⟩ => ⟨S6x256x24, .bf16⟩
  | .local _ .vmem, ⟨0, _⟩ => ⟨S1x256x1024, .fp8e5m2⟩
  | .local _ .vmem, ⟨1, _⟩ => ⟨S1x256x1024, .fp8e5m2⟩
  | .local _ .vmem, ⟨2, _⟩ => ⟨S6x256, .f32⟩
  | .local _ .vmem, ⟨3, _⟩ => ⟨S1x256x24, .fp8e4m3⟩
  | .local _ .vmem, ⟨4, _⟩ => ⟨S1x256x24, .fp8e4m3⟩
  | .local _ .vmem, ⟨5, _⟩ => ⟨S6x256, .f32⟩
  | .local _ .vmem, ⟨6, _⟩ => ⟨S5120x1024, .fp8e4m3⟩
  | .local _ .vmem, ⟨7, _⟩ => ⟨S1x1024, .f32⟩
  | .local _ .vmem, ⟨8, _⟩ => ⟨S5120x24, .bf16⟩
  | .local _ .vmem, ⟨9, _⟩ => ⟨S24x1024, .bf16⟩
  | .local _ .vmem, ⟨10, _⟩ => ⟨S1x256x5120, .bf16⟩
  | .local _ .vmem, ⟨11, _⟩ => ⟨S1x256x5120, .bf16⟩
  | .local _ .vmem, ⟨12, _⟩ => ⟨S24x1024, .f32⟩
  | .local _ .vmem, ⟨13, _⟩ => ⟨S1x256x24, .bf16⟩
  | .local _ .vmem, ⟨14, _⟩ => ⟨S1x256x24, .bf16⟩
  | _, _ => ⟨S6x256x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![6], ![false]⟩

def k0_off1 (i : grid0.Coords) : Fin 2 → Nat :=
  let arg0 : BitVec 32 := BitVec.ofNat 32 (i 0).val
  let v0 : Index := Scalar.indexCast arg0
  let c0 : Index := 0#32
  ![v0.toNat, 0]
def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_15 : BitVec 32 := 0#32
  let v37 : BitVec 1 := Scalar.cmpi .ne v36 c0_i32_15
  v37

def k0_cond2 (i : grid0.Coords) : BitVec 1 :=
  let arg0 : BitVec 32 := BitVec.ofNat 32 (i 0).val
  let c0_i32_16 : BitVec 32 := 0#32
  let v38 : BitVec 1 := Scalar.cmpi .sgt arg0 c0_i32_16
  let v39 : BitVec 32 := Scalar.extui v38
  let c0_i32_17 : BitVec 32 := 0#32
  let v40 : BitVec 1 := Scalar.cmpi .ne v39 c0_i32_17
  v40

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x24 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5120x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5120x24 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S24x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x5120 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S24x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x256x24 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S6x256x1024 : Shape := ⟨3, ![6, 256, 1024]⟩
abbrev S6x256 : Shape := ⟨2, ![6, 256]⟩
abbrev S6x256x24 : Shape := ⟨3, ![6, 256, 24]⟩
abbrev S5120x1024 : Shape := ⟨2, ![5120, 1024]⟩
abbrev S1024 : Shape := ⟨1, ![1024]⟩
abbrev S5120x24 : Shape := ⟨2, ![5120, 24]⟩
abbrev S24x1024 : Shape := ⟨2, ![24, 1024]⟩
abbrev S6x256x5120 : Shape := ⟨3, ![6, 256, 5120]⟩
abbrev S6x256x1 : Shape := ⟨3, ![6, 256, 1]⟩
abbrev S1x1024 : Shape := ⟨2, ![1, 1024]⟩

abbrev nBuf : Space → Nat
  | .hbm => 11
  | .vmem => 11
  | .smem => 0
  | _ => 0

abbrev bufTy : (tb : Table) → Fin (tcTables nBuf tb) → BufTy
  | .hbm, ⟨0, _⟩ => ⟨S6x256x1024, .fp8e5m2⟩
  | .hbm, ⟨1, _⟩ => ⟨S6x256, .f32⟩
  | .hbm, ⟨2, _⟩ => ⟨S6x256x24, .fp8e4m3⟩
  | .hbm, ⟨3, _⟩ => ⟨S6x256, .f32⟩
  | .hbm, ⟨4, _⟩ => ⟨S5120x1024, .fp8e4m3⟩
  | .hbm, ⟨5, _⟩ => ⟨S1024, .f32⟩
  | .hbm, ⟨6, _⟩ => ⟨S5120x24, .bf16⟩
  | .hbm, ⟨7, _⟩ => ⟨S24x1024, .bf16⟩
  | .hbm, ⟨8, _⟩ => ⟨S6x256x5120, .bf16⟩
  | .hbm, ⟨9, _⟩ => ⟨S24x1024, .f32⟩
  | .hbm, ⟨10, _⟩ => ⟨S6x256x24, .bf16⟩
  | .local _ .vmem, ⟨0, _⟩ => ⟨S6x256x1024, .fp8e5m2⟩
  | .local _ .vmem, ⟨1, _⟩ => ⟨S6x256, .f32⟩
  | .local _ .vmem, ⟨2, _⟩ => ⟨S6x256x24, .fp8e4m3⟩
  | .local _ .vmem, ⟨3, _⟩ => ⟨S6x256, .f32⟩
  | .local _ .vmem, ⟨4, _⟩ => ⟨S5120x1024, .fp8e4m3⟩
  | .local _ .vmem, ⟨5, _⟩ => ⟨S1024, .f32⟩
  | .local _ .vmem, ⟨6, _⟩ => ⟨S5120x24, .bf16⟩
  | .local _ .vmem, ⟨7, _⟩ => ⟨S24x1024, .bf16⟩
  | .local _ .vmem, ⟨8, _⟩ => ⟨S6x256x5120, .bf16⟩
  | .local _ .vmem, ⟨9, _⟩ => ⟨S24x1024, .f32⟩
  | .local _ .vmem, ⟨10, _⟩ => ⟨S6x256x24, .bf16⟩
  | _, _ => ⟨S6x256x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S6x256x1024 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x24 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x1024 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5120x24 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x256x5120 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x256x24 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Reals.lean ====
/-
  Hand-written, untrusted. Sums of extended reals times one factor. Multiplication does not distribute over addition on
  the extended reals: `(⊤ + ⊥) * (-1)` is `⊤`, and `⊤ * (-1) + ⊥ * (-1)` is `⊥`. It does when the factor is neither negative
  nor `⊤`, and that is the only case used.
-/
module

public import Mathlib.Data.EReal.Operations
public import Mathlib.Algebra.BigOperators.Group.Finset.Basic
public import Idealize.ShloMosaic.PureOps.Ideal.Laws

@[expose] public section

noncomputable section

namespace Cert.Reals

open Idealize.ShloMosaic

/-- A factor that is neither negative nor `⊤` moves into a sum from the right. -/
theorem sum_mul {ι : Type} {c : EReal} (h0 : 0 ≤ c) (ht : c ≠ ⊤) (s : Finset ι) (f : ι → EReal) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- The same from the left. -/
theorem mul_sum {ι : Type} {c : EReal} (h0 : 0 ≤ c) (ht : c ≠ ⊤) (s : Finset ι) (f : ι → EReal) :
    c * (∑ i ∈ s, f i) = ∑ i ∈ s, c * f i := by
  rw [mul_comm, sum_mul h0 ht]
  exact Finset.sum_congr rfl fun i _ => mul_comm _ _

/-- The f32 pattern `0x40000000` is two. -/
theorem ofBits_two : Ideal.ofBits .f32 0x40000000#32 = ((2 : ℝ) : EReal) := by
  simp [Ideal.ofBits, Ideal.ieee, -EReal.coe_mul]; norm_num

/-- The f32 pattern `0x7F800000` is `⊤`. -/
theorem ofBits_inf : Ideal.ofBits .f32 0x7F800000#32 = (⊤ : EReal) := by
  simp [Ideal.ofBits, Ideal.ieee]

/-- Two moves into a sum. -/
theorem two_mul_sum {ι : Type} (s : Finset ι) (f : ι → EReal) :
    Ideal.ofBits .f32 0x40000000#32 * (∑ i ∈ s, f i) = ∑ i ∈ s, Ideal.ofBits .f32 0x40000000#32 * f i := by
  rw [ofBits_two]
  exact mul_sum (EReal.coe_nonneg.mpr (by norm_num)) (EReal.coe_ne_top _) s f

end Cert.Reals

end
-- ==== Proof.Finite.lean ====
/-
  Hand-written, untrusted. The precondition, read at one index: every scale of `dy` is at least zero and is not `⊤`.
-/
module

public import proofs.«01_k».proof.Defs
public import proofs.«01_k».proof.Proof.Reals
public import Idealize.ShloMosaic.Lib.IdealHost
public import Idealize.ShloMosaic.Lib.ValueIdx

@[expose] public section

noncomputable section

namespace Cert.Finite

open Idealize.ShloMosaic Idealize.SL.Sem

/-- The side condition the precondition's operations take: a scalar broadcasts to every shape. -/
instance facts : Cert.Pre_scales_finite.Facts := ⟨by decide⟩

/-- Every scale of `dy` is at least zero and is not `⊤`. -/
def Scales (dys : FVec Ideal Cert.KernelIdeal.S6x256 .f32) : Prop :=
  ∀ i, (0 : EReal) ≤ dys i ∧ (dys i : EReal) ≠ ⊤

/-- What the printed precondition says of the scales. -/
theorem scales_of_pre [Cert.Pre_scales_finite.Facts] (x0 : FVec Ideal Cert.KernelIdeal.S6x256x1024 .fp8e5m2)
    (dys : FVec Ideal Cert.KernelIdeal.S6x256 .f32)
    (x2 : FVec Ideal Cert.KernelIdeal.S6x256x24 .fp8e4m3) (x3 : FVec Ideal Cert.KernelIdeal.S6x256 .f32)
    (x4 : FVec Ideal Cert.KernelIdeal.S5120x1024 .fp8e4m3) (x5 : FVec Ideal Cert.KernelIdeal.S1024 .f32)
    (x6 : FVec Ideal Cert.KernelIdeal.S5120x24 .bf16) (x7 : FVec Ideal Cert.KernelIdeal.S24x1024 .bf16)
    (h : Cert.Pre_scales_finite.fn (F := Ideal) x0 dys x2 x3 x4 x5 x6 x7 = fun _ => 1#1) : Scales dys := by
  intro i
  have hi := congrFun h i
  unfold Cert.Pre_scales_finite.fn at hi
  have hb : ((dys i : EReal) ≥ 0 ∧ (dys i : EReal) < ⊤) := by
    have hi' : BitVec.ofBool (decide (Ideal.ofBits .f32 0x00000000#32 ≤ (dys i : EReal)))
        &&& BitVec.ofBool (decide ((dys i : EReal) < Ideal.ofBits .f32 0x7F800000#32)) = 1#1 := hi
    rw [Ideal.ofBits_zero_f32, Reals.ofBits_inf] at hi'
    by_cases h0 : (0 : EReal) ≤ dys i <;> by_cases h1 : (dys i : EReal) < ⊤ <;> simp_all
  exact ⟨hb.1, hb.2.ne⟩

end Cert.Finite

end
-- ==== Proof.Mathematics.lean ====
/-
  Hand-written, untrusted. The reference's three results at an index. Each is the reference body's own stored term
  (`dx`, `db`, `dh` below), and each lemma gives its value there as sums over the arguments, in the order in which the
  kernel multiplies: `db_at` moves the factor two into the sum over the batch, `dx_at` moves a row's scale of `dy` into
  the contraction with the base weight, which is where that scale must be neither negative nor `⊤`.
-/
module

public import proofs.«01_k».proof.Proof.Finite
public import proofs.«01_k».proof.Proof.Gen.ReferenceIdeal.Skeleton
public import Idealize.ShloMosaic.Lib.Pipeline.ValueKit
public import Idealize.ShloMosaic.Lib.Pointwise

@[expose] public section

set_option maxRecDepth 16384

noncomputable section

namespace Cert.Mathematics

open Idealize.ShloMosaic
open Cert.ReferenceIdeal Cert.ReferenceIdeal.Gen

variable (dyc : FVec Ideal S6x256x1024 .fp8e5m2) (dys : FVec Ideal S6x256 .f32) (zc : FVec Ideal S6x256x24 .fp8e4m3)
  (zs : FVec Ideal S6x256 .f32) (wc : FVec Ideal S5120x1024 .fp8e4m3) (ws : FVec Ideal S1024 .f32)
  (a : FVec Ideal S5120x24 .bf16) (b : FVec Ideal S24x1024 .bf16)

/-- The gradient of the layer's input: what the reference stores in its first result. -/
def dx : FVec Ideal S6x256x5120 .bf16 :=
  k0_pay1 (F := Ideal) dys (k0_pay2 dyc) (k0_pay4 dys dyc b) (k0_pay5 wc ws) a

/-- The gradient of the second adapter matrix: what the reference stores in its second result. -/
def db : FVec Ideal S24x1024 .f32 := k0_pay3 (F := Ideal) dys dyc zc zs

/-- The gradient of the adapter's inner activation: what the reference stores in its third result. -/
def dh : FVec Ideal S6x256x24 .bf16 := k0_pay4 (F := Ideal) dys dyc b

/-- `dh` at an index: `dy` against `b`, times the row's scale, times two. -/
theorem dh_at (n : Fin 6) (s : Fin 256) (r : Fin 24) :
    dh dyc dys b (ix3 n s r)
      = (∑ o : Fin 1024, dyc (ix3 n s o) * b (ix2 r o)) * dys (ix2 n s) * Ideal.ofBits .f32 0x40000000#32 := by
  pointwise [dh, k0_pay4, k0_pay2]

/-- `db` at an index: one sum over the positions for each member of the batch, each times two. -/
theorem db_at (r : Fin 24) (o : Fin 1024) :
    db dyc dys zc zs (ix2 r o)
      = ∑ n : Fin 6, Ideal.ofBits .f32 0x40000000#32 *
          ∑ s : Fin 256, zc (ix3 n s r) * (zs (ix2 n s) * dys (ix2 n s)) * dyc (ix3 n s o) := by
  rw [← Reals.two_mul_sum]
  pointwise [db, k0_pay3, k0_pay2]
  refine congrArg _ (Finset.sum_congr rfl fun n _ => Finset.sum_congr rfl fun s _ => ?_)
  ac_rfl

/-- `dx` at an index: `dy` with its row's scale and the column's scale of the weight against the weight, and `dh`
    against `a`. The row's scale is neither negative nor `⊤`. -/
theorem dx_at (h : Finite.Scales dys) (n : Fin 6) (s : Fin 256) (d : Fin 5120) :
    dx dyc dys wc ws a b (ix3 n s d)
      = (∑ o : Fin 1024, dyc (ix3 n s o) * ws (ix1 o) * dys (ix2 n s) * wc (ix2 d o))
        + ∑ r : Fin 24, dh dyc dys b (ix3 n s r) * a (ix2 d r) := by
  simp only [dh_at]
  pointwise [dx, k0_pay1, k0_pay2, k0_pay4, k0_pay5]
  rw [Reals.sum_mul (h (ix2 n s)).1 (h (ix2 n s)).2]
  refine congrArg (· + _) (Finset.sum_congr rfl fun o _ => ?_)
  ac_rfl

end Cert.Mathematics

end
-- ==== Proof.Windows.lean ====
/-
  Hand-written, untrusted. Where the kernel's blocks lie: the block index of every window at a grid point, and the row of
  the scales the body reads there. Point `t` is member `t` of the batch.
-/
module

public import proofs.«01_k».proof.Proof.Mathematics
public import proofs.«01_k».proof.Proof.Gen.KernelIdeal.Frame
public import Idealize.ShloMosaic.Lib.Claim

@[expose] public section

set_option maxRecDepth 16384

noncomputable section

namespace Cert.KernelIdeal.Windows

open Cert.KernelIdeal Cert.KernelIdeal.Gen Idealize.ShloMosaic Idealize.ShloMosaic.TcCoe Idealize.SL.Sem

/-- Every window's block index at point `t`. -/
theorem idx : ∀ t : Fin cfg0.N, win0_0.index t = ![t.val, 0, 0] ∧ win0_1.index t = ![0, 0] ∧ win0_2.index t = ![t.val, 0, 0]
    ∧ win0_3.index t = ![0, 0] ∧ win0_4.index t = ![0, 0] ∧ win0_5.index t = ![0, 0] ∧ win0_6.index t = ![0, 0]
    ∧ win0_7.index t = ![0, 0] ∧ win0_8.index t = ![t.val, 0, 0] ∧ win0_9.index t = ![0, 0]
    ∧ win0_10.index t = ![t.val, 0, 0] :=
  (by decide +kernel : ∀ t : Fin grid0.N, _)

/-- The body at point `t` reads row `t` of the scales. -/
theorem row : ∀ t : Fin cfg0.N, k0_off1 (grid0.coords t) = ![t.val, 0] :=
  (by decide +kernel : ∀ t : Fin grid0.N, _)

/-- The grid has six points. -/
theorem lt_six (t : Fin cfg0.N) : t.val < 6 := Nat.lt_of_lt_of_eq t.isLt N_0

/-- A point at which the body stores its part of the second result comes before the points at which it adds. -/
theorem first {t : Fin cfg0.N} (h : t.val % 6 = 0) : ¬1 ≤ t.val := by have := lt_six t; omega

/-- Every other point adds. -/
theorem later {t : Fin cfg0.N} (h : ¬t.val % 6 = 0) : 1 ≤ t.val := by omega

/-- The row of a scale array that the body reads at point `t`. -/
def rowOf (t : Fin cfg0.N) (x : Vec Ideal S6x256 .f32) : Vec Ideal S1x256 .f32 :=
  View.ld x (Rect.unit (s := S6x256) (k0_off1 (grid0.coords t)) S1x256.size (Facts₀.k0_off1_inb (grid0.coords t)))

/-- The member of the batch point `t` is at. -/
abbrev member (t : Fin cfg0.N) : Fin 6 := ⟨t.val, lt_six t⟩

/-- That row at a position. -/
theorem rowOf_at (t : Fin cfg0.N) (x : Vec Ideal S6x256 .f32) (s : Fin 256) : rowOf t x (ix2 0 s) = x (ix2 (member t) s) := by
  unfold rowOf
  pointwise
  blk_ext [row t]

variable (m : (ℓ : Loc nD τ sig) → Buf (Elt Ideal) ℓ)

/-- The first result's block after point `t`: the same term in both cases of the body. -/
theorem after_dx (c : Dev nD) (t : Fin cfg0.N) : (outsAt0 m c t.val t.isLt).1
    = k0_pay2 (k0_pay3 (rowOf t (iblk m c 1 t))) (k0_pay4 (iblk m c 0 t))
        (k0_pay5 (rowOf t (iblk m c 1 t)) (iblk m c 0 t) (iblk m c 7 t)) (iblk m c 5 t) (iblk m c 4 t) (iblk m c 6 t) := by
  by_cases h : t.val % 6 = 0
  · rw [outsAt0_A m c t h (first h)]; frame_out; rfl
  · rw [outsAt0_B m c t h (later h)]; frame_out; rfl

/-- The third result's block after point `t`: the same term in both cases of the body. -/
theorem after_dh (c : Dev nD) (t : Fin cfg0.N) : (outsAt0 m c t.val t.isLt).2.2
    = k0_pay6 (rowOf t (iblk m c 1 t)) (iblk m c 0 t) (iblk m c 7 t) := by
  by_cases h : t.val % 6 = 0
  · rw [outsAt0_A m c t h (first h)]; frame_out; rfl
  · rw [outsAt0_B m c t h (later h)]; frame_out; rfl

end Cert.KernelIdeal.Windows

end
-- ==== Proof.Dx.lean ====
/-
  Hand-written, untrusted. The kernel's first result, the gradient of the layer's input: every point writes its own member
  of the batch. The kernel scales `dy` before it contracts with the base weight, the reference after.
-/
module

public import proofs.«01_k».proof.Proof.Windows

@[expose] public section

set_option maxRecDepth 16384

noncomputable section

namespace Cert.KernelIdeal.Dx

open Cert.KernelIdeal Cert.KernelIdeal.Gen Idealize.ShloMosaic Idealize.ShloMosaic.TcCoe Idealize.SL.Sem
open Cert.KernelIdeal.Windows

variable (m : (ℓ : Loc nD τ sig) → Buf (Elt Ideal) ℓ)

/-- The first result's array after the run is the reference's term over the arguments. -/
theorem final (c : Dev nD) (h : Finite.Scales (m ((c : Thread nD τ).loc main_arg1))) : (dats m 0 c).arrAt 8 (cfgs 0).N
    = Mathematics.dx (m ((c : Thread nD τ).loc main_arg0)) (m ((c : Thread nD τ).loc main_arg1))
        (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t _ y => ?_
  blk_simp
  rw [after0_8, after_dx]
  idx_vars y
  rw [show ((View.whole main_v1_0).slice (win0_8.rect t)).emb (ix3 y0 y1 y2) = ix3 (member t) y1 y2 by blk_ext [idx t],
    Mathematics.dx_at _ _ _ _ _ _ h]
  simp only [Mathematics.dh_at]
  pointwise [k0_pay2, k0_pay5, k0_pay4, k0_pay3]
  simp only [rowOf_at]
  blk_point [iblk, V, idx t]

end Cert.KernelIdeal.Dx

end
-- ==== Proof.Db.lean ====
/-
  Hand-written, untrusted. The kernel's second result, the gradient of the second adapter matrix: one block for the whole
  grid, to which every point adds its member of the batch.
-/
module

public import proofs.«01_k».proof.Proof.Windows

@[expose] public section

set_option maxRecDepth 16384

noncomputable section

namespace Cert.KernelIdeal.Db

open Cert.KernelIdeal Cert.KernelIdeal.Gen Idealize.ShloMosaic Idealize.ShloMosaic.TcCoe Idealize.SL.Sem
open Cert.KernelIdeal.Windows

variable (m : (ℓ : Loc nD τ sig) → Buf (Elt Ideal) ℓ)

/-- What point `t` contributes. -/
abbrev part (c : Dev nD) (t : Fin cfg0.N) : Vec Ideal S24x1024 .f32 :=
  k0_pay7 (rowOf t (iblk m c 1 t)) (rowOf t (iblk m c 3 t)) (iblk m c 0 t) (iblk m c 2 t)

/-- The first point stores its part. -/
theorem stores (c : Dev nD) (t : Fin cfg0.N) (h : t.val % 6 = 0) (j : S24x1024.Idx) :
    ((outsAt0 m c t.val t.isLt).2.1 j : EReal) = 0 + part m c t j := by
  rw [outsAt0_A m c t h (first h)]; frame_out
  exact (zero_add _).symm

/-- Every later point adds its part to what the point before left. -/
theorem adds (c : Dev nD) (t : Fin cfg0.N) (h : ¬t.val % 6 = 0) (j : S24x1024.Idx) :
    ((outsAt0 m c t.val t.isLt).2.1 j : EReal)
      = (outsAt0 m c (t.val - 1) (Nat.lt_of_le_of_lt (Nat.sub_le _ _) t.isLt)).2.1 j + part m c t j := by
  rw [outsAt0_B m c t h (later h)]; frame_out
  pointwise [k0_pay1]
  rfl

/-- The second result's array after the run is the reference's term over the arguments. -/
theorem final (c : Dev nD) : (dats m 0 c).arrAt 9 (cfgs 0).N
    = Mathematics.db (m ((c : Thread nD τ).loc main_arg0)) (m ((c : Thread nD τ).loc main_arg1))
        (m ((c : Thread nD τ).loc main_arg2)) (m ((c : Thread nD τ).loc main_arg3)) := by
  refine (dats m 0 c).arrAt_eq_of_after_last 9 t0_5 (by decide +kernel) _ fun j => ?_
  blk_simp
  rw [after0_9, Pipeline.eq_sum_fin_of_reset_step_apply_last (fun n h => ((outsAt0 m c n h).2.1 : S24x1024.Idx → EReal)) 6
    (fun _ => 0) (part m c) (stores m c) (adds m c) (le_of_eq N_0) t0_5 rfl j, zero_add]
  idx_vars j
  rw [Mathematics.db_at]
  refine Fintype.sum_equiv (M := EReal) (finCongr N_0) _ _ fun t => ?_
  rw [show finCongr N_0 t = member t from rfl]
  pointwise [part, k0_pay7, k0_pay4]
  simp only [rowOf_at]
  blk_point [iblk, V, idx t]

end Cert.KernelIdeal.Db

end
-- ==== Proof.Dh.lean ====
/-
  Hand-written, untrusted. The kernel's third result, the gradient of the adapter's inner activation: every point writes
  its own member of the batch, with the reference's operations in the reference's order.
-/
module

public import proofs.«01_k».proof.Proof.Windows

@[expose] public section

set_option maxRecDepth 16384

noncomputable section

namespace Cert.KernelIdeal.Dh

open Cert.KernelIdeal Cert.KernelIdeal.Gen Idealize.ShloMosaic Idealize.ShloMosaic.TcCoe Idealize.SL.Sem
open Cert.KernelIdeal.Windows

variable (m : (ℓ : Loc nD τ sig) → Buf (Elt Ideal) ℓ)

/-- The third result's array after the run is the reference's term over the arguments. -/
theorem final (c : Dev nD) : (dats m 0 c).arrAt 10 (cfgs 0).N
    = Mathematics.dh (m ((c : Thread nD τ).loc main_arg0)) (m ((c : Thread nD τ).loc main_arg1))
        (m ((c : Thread nD τ).loc main_arg7)) := by
  refine (dats m 0 c).arrAt_eq_of_covers 10 _ (by decide +kernel) fun t _ y => ?_
  blk_simp
  rw [after0_10, after_dh]
  idx_vars y
  rw [show ((View.whole main_v1_2).slice (win0_10.rect t)).emb (ix3 y0 y1 y2) = ix3 (member t) y1 y2 by blk_ext [idx t],
    Mathematics.dh_at]
  pointwise [k0_pay6, k0_pay5, k0_pay4, k0_pay3]
  rw [rowOf_at]
  blk_point [iblk, V, idx t]

end Cert.KernelIdeal.Dh

end
-- ==== Proof.lean ====
/-
  Hand-written, untrusted. The proof of `Cert.Claim` (proof/Defs.lean): the frames are the generated ones, the kernel's
  ideal program is the kernel itself with nothing rewritten, and the algebraic claim sets the kernel's three result arrays
  (Proof/Dx.lean, Proof/Db.lean, Proof/Dh.lean) beside the three terms the reference's run ends in.
-/
module

public import proofs.«01_k».proof.Defs
public import proofs.«01_k».proof.Proof.Gen.Kernel.Frame
public import proofs.«01_k».proof.Proof.Gen.ReferenceIdeal.Value
public import proofs.«01_k».proof.Proof.Dx
public import proofs.«01_k».proof.Proof.Db
public import proofs.«01_k».proof.Proof.Dh

@[expose] public section

set_option maxRecDepth 16384

noncomputable section

namespace Cert.Proof

open Idealize.ShloMosaic Idealize.SL.Sem

/-- From equal arguments, with every scale of `dy` neither negative nor `⊤`, the kernel's three results are the
    reference's. -/
theorem algebraic : Cert.algebraic_KernelIdeal_ReferenceIdeal_pre_scales_finite
    (hKernelIdeal := Cert.KernelIdeal.Gen.facts) (hReferenceIdeal := Cert.ReferenceIdeal.Gen.facts)
    (hPre_scales_finite := Finite.facts) := by
  pair_intro
  · run_from Cert.KernelIdeal.Gen.run_main m g
  · run_from Cert.ReferenceIdeal.Value.run m' g'
    · exact (KernelIdeal.Dx.final m c (Finite.scales_of_pre _ _ _ _ _ _ _ _ (hpre c))).symm
    · exact (KernelIdeal.Db.final m c).symm
    · exact (KernelIdeal.Dh.final m c).symm

theorem claim : Cert.Claim :=
  ⟨Cert.Kernel.Gen.facts, Cert.KernelIdeal.Gen.facts, Cert.ReferenceIdeal.Gen.facts, Finite.facts,
    fun m g _ => Cert.Kernel.Gen.frame m g, fun m g _ => Cert.KernelIdeal.Gen.frame m g,
    fun m g _ => Cert.KernelIdeal.Gen.frame m g, fun m g _ => Cert.ReferenceIdeal.Gen.frame m g,
    fun m g _ => Cert.ReferenceIdeal.Gen.frame m g, trivial, algebraic⟩

end Cert.Proof

end
